-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x512x512 : Shape := ⟨4, ![8, 32, 512, 512]⟩
abbrev S131072x512 : Shape := ⟨2, ![131072, 512]⟩
abbrev S512 : Shape := ⟨1, ![512]⟩
abbrev S512x1 : Shape := ⟨2, ![512, 1]⟩
abbrev S256 : Shape := ⟨1, ![256]⟩
abbrev S1x256 : Shape := ⟨2, ![1, 256]⟩
abbrev S_ : Shape := ⟨0, ![]⟩
abbrev S512x256 : Shape := ⟨2, ![512, 256]⟩
abbrev S65536x256 : Shape := ⟨2, ![65536, 256]⟩
abbrev S8x32x256x256 : Shape := ⟨4, ![8, 32, 256, 256]⟩
abbrev S8192x512 : Shape := ⟨2, ![8192, 512]⟩
abbrev S4096x256 : Shape := ⟨2, ![4096, 256]⟩
abbrev S4x4096x128 : Shape := ⟨3, ![4, 4096, 128]⟩
abbrev S256x512 : Shape := ⟨2, ![256, 512]⟩
abbrev S256x256 : Shape := ⟨2, ![256, 256]⟩
abbrev S4096x128 : Shape := ⟨2, ![4096, 128]⟩
abbrev S1x4096x128 : Shape := ⟨3, ![1, 4096, 128]⟩
abbrev S1x256x128 : Shape := ⟨3, ![1, 256, 128]⟩
abbrev S256x128 : Shape := ⟨2, ![256, 128]⟩
abbrev S1x512 : Shape := ⟨2, ![1, 512]⟩
abbrev S255x512 : Shape := ⟨2, ![255, 512]⟩

abbrev nBuf : Space → Nat
  | .hbm => 29
  | .vmem => 8
  | .smem => 0
  | _ => 0

abbrev bufTy : (tb : Table) → Fin (tcTables nBuf tb) → BufTy
  | .hbm, ⟨0, _⟩ => ⟨S8x32x512x512, .f32⟩
  | .hbm, ⟨1, _⟩ => ⟨S131072x512, .f32⟩
  | .hbm, ⟨2, _⟩ => ⟨S512, .i32⟩
  | .hbm, ⟨3, _⟩ => ⟨S512x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S1x256, .i32⟩
  | .hbm, ⟨8, _⟩ => ⟨S1x256, .i32⟩
  | .hbm, ⟨9, _⟩ => ⟨S_, .i32⟩
  | .hbm, ⟨10, _⟩ => ⟨S1x256, .i32⟩
  | .hbm, ⟨11, _⟩ => ⟨S1x256, .i32⟩
  | .hbm, ⟨12, _⟩ => ⟨S512x256, .i32⟩
  | .hbm, ⟨13, _⟩ => ⟨S512x256, .i32⟩
  | .hbm, ⟨14, _⟩ => ⟨S512x256, .i1⟩
  | .hbm, ⟨15, _⟩ => ⟨S512x256, .f32⟩
  | .hbm, ⟨16, _⟩ => ⟨S512x256, .i32⟩
  | .hbm, ⟨17, _⟩ => ⟨S512x256, .i32⟩
  | .hbm, ⟨18, _⟩ => ⟨S512x256, .i1⟩
  | .hbm, ⟨19, _⟩ => ⟨S512x256, .f32⟩
  | .hbm, ⟨20, _⟩ => ⟨S_, .i32⟩
  | .hbm, ⟨21, _⟩ => ⟨S1x256, .i32⟩
  | .hbm, ⟨22, _⟩ => ⟨S1x256, .i32⟩
  | .hbm, ⟨23, _⟩ => ⟨S512x256, .i32⟩
  | .hbm, ⟨24, _⟩ => ⟨S512x256, .i32⟩
  | .hbm, ⟨25, _⟩ => ⟨S512x256, .i1⟩
  | .hbm, ⟨26, _⟩ => ⟨S512x256, .f32⟩
  | .hbm, ⟨27, _⟩ => ⟨S65536x256, .f32⟩
  | .hbm, ⟨28, _⟩ => ⟨S8x32x256x256, .f32⟩
  | .local _ .vmem, ⟨0, _⟩ => ⟨S8192x512, .f32⟩
  | .local _ .vmem, ⟨1, _⟩ => ⟨S8192x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S4096x256, .f32⟩
  | .local _ .vmem, ⟨6, _⟩ => ⟨S4096x256, .f32⟩
  | .local _ .vmem, ⟨7, _⟩ => ⟨S4x4096x128, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_c : Ref sig .tc := ⟨.hbm, 6, rfl⟩
abbrev main_call0_v5 : Ref sig .tc := ⟨.hbm, 7, rfl⟩
abbrev main_call0_v6 : Ref sig .tc := ⟨.hbm, 8, rfl⟩
abbrev main_call0_c_0 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_c_1 : Ref sig .tc := ⟨.hbm, 20, rfl⟩
abbrev main_call0_v17 : Ref sig .tc := ⟨.hbm, 21, rfl⟩
abbrev main_call0_v18 : Ref sig .tc := ⟨.hbm, 22, rfl⟩
abbrev main_call0_v19 : Ref sig .tc := ⟨.hbm, 23, rfl⟩
abbrev main_call0_v20 : Ref sig .tc := ⟨.hbm, 24, rfl⟩
abbrev main_call0_v21 : Ref sig .tc := ⟨.hbm, 25, rfl⟩
abbrev main_call0_v22 : Ref sig .tc := ⟨.hbm, 26, rfl⟩
abbrev main_call0_v23 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x32x512x512 : Shape := ⟨4, ![8, 32, 512, 512]⟩
abbrev S256x512x512 : Shape := ⟨3, ![256, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1x512x512 : Shape := ⟨3, ![1, 512, 512]⟩
abbrev S256x514x514 : Shape := ⟨3, ![256, 514, 514]⟩
abbrev S256x256x256 : Shape := ⟨3, ![256, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x32x256x256 : Shape := ⟨4, ![8, 32, 256, 256]⟩

abbrev nBuf : Space → Nat
  | .hbm => 46
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S256x512x512, .f32⟩
  | .hbm, ⟨2, _⟩ => ⟨S512, .i32⟩
  | .hbm, ⟨3, _⟩ => ⟨S512x1, .i32⟩
  | .hbm, ⟨4, _⟩ => ⟨S1x512, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S_, .i32⟩
  | .hbm, ⟨9, _⟩ => ⟨S512x512, .i32⟩
  | .hbm, ⟨10, _⟩ => ⟨S512x512, .i1⟩
  | .hbm, ⟨11, _⟩ => ⟨S1x512x512, .i1⟩
  | .hbm, ⟨12, _⟩ => ⟨S_, .f32⟩
  | .hbm, ⟨13, _⟩ => ⟨S256x512x512, .i1⟩
  | .hbm, ⟨14, _⟩ => ⟨S256x512x512, .f32⟩
  | .hbm, ⟨15, _⟩ => ⟨S256x512x512, .f32⟩
  | .hbm, ⟨16, _⟩ => ⟨S_, .f32⟩
  | .hbm, ⟨17, _⟩ => ⟨S_, .f32⟩
  | .hbm, ⟨18, _⟩ => ⟨S256x514x514, .f32⟩
  | .hbm, ⟨19, _⟩ => ⟨S256x256x256, .f32⟩
  | .hbm, ⟨20, _⟩ => ⟨S256x256x256, .f32⟩
  | .hbm, ⟨21, _⟩ => ⟨S256x256x256, .f32⟩
  | .hbm, ⟨22, _⟩ => ⟨S256x256x256, .f32⟩
  | .hbm, ⟨23, _⟩ => ⟨S256x256x256, .f32⟩
  | .hbm, ⟨24, _⟩ => ⟨S256x256x256, .f32⟩
  | .hbm, ⟨25, _⟩ => ⟨S256x256x256, .f32⟩
  | .hbm, ⟨26, _⟩ => ⟨S256x256x256, .f32⟩
  | .hbm, ⟨27, _⟩ => ⟨S256x256x256, .f32⟩
  | .hbm, ⟨28, _⟩ => ⟨S256x256x256, .f32⟩
  | .hbm, ⟨29, _⟩ => ⟨S256x256x256, .f32⟩
  | .hbm, ⟨30, _⟩ => ⟨S256x256x256, .f32⟩
  | .hbm, ⟨31, _⟩ => ⟨S256x256x256, .f32⟩
  | .hbm, ⟨32, _⟩ => ⟨S256, .i32⟩
  | .hbm, ⟨33, _⟩ => ⟨S256x1, .i32⟩
  | .hbm, ⟨34, _⟩ => ⟨S1x256, .i32⟩
  | .hbm, ⟨35, _⟩ => ⟨S256x256, .i32⟩
  | .hbm, ⟨36, _⟩ => ⟨S256x256, .i32⟩
  | .hbm, ⟨37, _⟩ => ⟨S256x256, .i32⟩
  | .hbm, ⟨38, _⟩ => ⟨S_, .i32⟩
  | .hbm, ⟨39, _⟩ => ⟨S256x256, .i32⟩
  | .hbm, ⟨40, _⟩ => ⟨S256x256, .i1⟩
  | .hbm, ⟨41, _⟩ => ⟨S256x256, .f32⟩
  | .hbm, ⟨42, _⟩ => ⟨S1x256x256, .f32⟩
  | .hbm, ⟨43, _⟩ => ⟨S256x256x256, .f32⟩
  | .hbm, ⟨44, _⟩ => ⟨S256x256x256, .f32⟩
  | .hbm, ⟨45, _⟩ => ⟨S8x32x256x256, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v10 : Ref sig .tc := ⟨.hbm, 15, rfl⟩
abbrev main_cst_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Proof.HexPool.lean ====
/- The hexagonal max-pool as a formula: what one entry of one pooled image is in terms of the image's own entries, and the
   rearrangement of its seven taps into the row pairs that the kernel takes its maxima over. -/
module

public import Idealize.ShloMosaic.Lib.Pointwise
public import Idealize.ShloMosaic.Lib.WordCmp

@[expose] public section

noncomputable section

namespace Cert.Proof

open Idealize.ShloMosaic

/-- The padding value: the number whose float32 word is 0x3089705F, a little under 1e-9. -/
def padValue : EReal := Ideal.ofBits .f32 0x3089705F#32

/-- The padding value is positive. -/
theorem padValue_pos : 0 < padValue := by
  simp [padValue, Ideal.ofBits, Ideal.ieee, -EReal.coe_mul]

/-- An image's entry with the anti-diagonal (row + column = 512) replaced by the padding value. -/
def masked (f : ℕ → ℕ → EReal) (r c : ℕ) : EReal := if r + c = 512 then padValue else f r c

/-- The masked image behind one row of padding above and one column of padding on the left: entry (p, q) is the masked
    image's (p − 1, q − 1). -/
def padded (f : ℕ → ℕ → EReal) (p q : ℕ) : EReal := if p = 0 ∨ q = 0 then padValue else masked f (p - 1) (q - 1)

/-- Entry (i, j) of the pooled image: on the triangle i + j < 256 the greatest of the seven taps of the hexagon whose
    window starts at (2 i, 2 j) of the padded image, and 0 off the triangle. -/
def hexEntry (f : ℕ → ℕ → EReal) (i j : ℕ) : EReal :=
  if i + j < 256 then
    max (max (max (max (max (max (padded f (2 * i) (2 * j + 1)) (padded f (2 * i) (2 * j + 2)))
      (padded f (2 * i + 1) (2 * j))) (padded f (2 * i + 1) (2 * j + 1))) (padded f (2 * i + 1) (2 * j + 2)))
      (padded f (2 * i + 2) (2 * j))) (padded f (2 * i + 2) (2 * j + 1))
  else 0

/-- The row above the pair of rows (2 i, 2 i + 1): padding for the first pair, else the masked row 2 i − 1. -/
def rowAbove (f : ℕ → ℕ → EReal) (i c : ℕ) : EReal := if i = 0 then padValue else masked f (2 * (i - 1) + 1) c

/-- The pooled entry by columns: column 2 j of all three rows, column 2 j − 1 of the pair (0 where there is none), column
    2 j + 1 of the upper two rows, and the padding value once more in the first column. -/
theorem hexEntry_eq_columns (f : ℕ → ℕ → EReal) (i j : ℕ) :
    (if i + j < 256 then
      if j = 0 then
        max (max (max (max (rowAbove f i (2 * j)) (max (masked f (2 * i) (2 * j)) (masked f (2 * i + 1) (2 * j)))) 0)
          (max (rowAbove f i (2 * j + 1)) (masked f (2 * i) (2 * j + 1)))) padValue
      else
        max (max (max (rowAbove f i (2 * j)) (max (masked f (2 * i) (2 * j)) (masked f (2 * i + 1) (2 * j))))
          (max (masked f (2 * i) (2 * j - 1)) (masked f (2 * i + 1) (2 * j - 1))))
          (max (rowAbove f i (2 * j + 1)) (masked f (2 * i) (2 * j + 1)))
      else 0) = hexEntry f i j := by
  unfold hexEntry
  split
  · have above : ∀ c, padded f (2 * i) (c + 1) = rowAbove f i c := by
      intro c
      rcases Nat.eq_zero_or_pos i with rfl | hi
      · simp [padded, rowAbove]
      · simp [padded, rowAbove, hi.ne', show 2 * i - 1 = 2 * (i - 1) + 1 by omega]
    have inner : ∀ r c, padded f (r + 1) (c + 1) = masked f r c := by
      intro r c
      simp [padded]
    rw [above, above (2 * j + 1), inner (2 * i) (2 * j), inner (2 * i) (2 * j + 1), inner (2 * i + 1) (2 * j)]
    rcases Nat.eq_zero_or_pos j with rfl | hj
    · have left : ∀ r, padded f r (2 * 0) = padValue := by
        intro r
        simp [padded]
      rw [left, left, if_pos rfl]
      have h0 : max (0 : EReal) padValue = padValue := max_eq_right padValue_pos.le
      generalize rowAbove f i (2 * 0) = a
      generalize rowAbove f i (2 * 0 + 1) = b
      generalize masked f _ _ = e
      generalize masked f _ _ = g
      generalize masked f _ _ = h
      have regroup : max (max (max (max a (max e g)) 0) (max b h)) padValue
          = max (max (max a (max e g)) (max b h)) (max 0 padValue) := by
        ac_rfl
      rw [regroup, h0]
      ac_rfl
    · have left : ∀ r, padded f (r + 1) (2 * j) = masked f r (2 * j - 1) := by
        intro r
        simp [padded, hj.ne']
      rw [left (2 * i), left (2 * i + 1), if_neg hj.ne']
      ac_rfl
  · rfl

/-- A padded entry of two images that agree on the 512 × 512 square is the same. -/
theorem padded_congr (f g : ℕ → ℕ → EReal) (h : ∀ r c, r < 512 → c < 512 → f r c = g r c) (p q : ℕ) (hp : p ≤ 512) (hq : q ≤ 512) :
    padded f p q = padded g p q := by
  unfold padded masked
  split
  · rfl
  · rw [h (p - 1) (q - 1) (by omega) (by omega)]

/-- The pooled entries of two images that agree on the 512 × 512 square are the same. -/
theorem hexEntry_congr (f g : ℕ → ℕ → EReal) (h : ∀ r c, r < 512 → c < 512 → f r c = g r c) (i j : ℕ) (hi : i < 256) (hj : j < 256) :
    hexEntry f i j = hexEntry g i j := by
  unfold hexEntry
  have e := padded_congr f g h
  rw [e _ _ (by omega) (by omega), e _ _ (by omega) (by omega), e _ _ (by omega) (by omega), e _ _ (by omega) (by omega),
    e _ _ (by omega) (by omega), e _ _ (by omega) (by omega), e _ _ (by omega) (by omega)]

/-- Image (a, b) of the stack of images: its entry (r, c), and 0 outside the 512 × 512 square. -/
def stackImage (x : FVec Ideal ⟨4, ![8, 32, 512, 512]⟩ .f32) (a : Fin 8) (b : Fin 32) (r c : ℕ) : EReal :=
  if h : r < 512 ∧ c < 512 then x (ix4 a b ⟨r, h.1⟩ ⟨c, h.2⟩) else 0

/-! ## Index words -/

/-- The word of `i + j = k` for small `i` and `j`, compared as words of 32 bits. -/
theorem word_sum_eq (i j k : ℕ) (hi : i < 2048) (hj : j < 2048) (hk : k < 2048) :
    IntOp.cmpi .eq (IntOp.addi (BitVec.ofNat 32 i) (BitVec.ofNat 32 j)) (BitVec.ofNat 32 k)
      = BitVec.ofBool (decide (i + j = k)) := by
  rw [IntOp.addi, ← BitVec.ofNat_add, WordCmp.cmpi_eq_ofNat (by omega) (by omega)]

/-- The word of `i + j < k` for small `i` and `j`, compared as signed words of 32 bits. -/
theorem word_sum_lt (i j k : ℕ) (hi : i < 2048) (hj : j < 2048) (hk : k < 2048) :
    IntOp.cmpi .slt (IntOp.addi (BitVec.ofNat 32 i) (BitVec.ofNat 32 j)) (BitVec.ofNat 32 k)
      = BitVec.ofBool (decide (i + j < k)) := by
  rw [IntOp.addi, ← BitVec.ofNat_add, WordCmp.cmpi_slt_ofNat (by omega) (by omega)]

/-- A one-bit word cast to a number is 1 or 0. -/
theorem bit_value (p : Prop) [Decidable p] :
    FloatOps.uitofp (F := Ideal) .f32 (BitVec.ofBool (decide p)) = if p then (1 : EReal) else 0 := by
  show (((BitVec.ofBool (decide p)).toNat : ℝ) : EReal) = _
  split <;> simp_all

/-- A choice between two numbers by the word of a proposition. -/
theorem bit_select (p : Prop) [Decidable p] (x y : Ideal .f32) :
    Scalar.select (BitVec.ofBool (decide p)) x y = if p then x else y := by
  split <;> simp_all [Scalar.select]

end Cert.Proof

end
-- ==== Proof.Image.lean ====
/- One pooled image as the kernel computes it: from the eight loads of an image's even and odd rows (four chunks of 128
   columns each) and the three selection matrices, entry by entry. -/
module

public import proofs.«01_k».proof.Proof.HexPool
public import proofs.«01_k».proof.Proof.Gen.KernelIdeal.Skeleton
public import Idealize.ShloMosaic.Lib.Pipeline.ValueKit

@[expose] public section

set_option maxRecDepth 16384

noncomputable section

namespace Cert.Proof

open Idealize.ShloMosaic Cert.KernelIdeal Cert.KernelIdeal.Gen

/-- A block's entry (r, c), and 0 outside the block. -/
def cell (B : FVec Ideal S8192x512 .f32) (r c : ℕ) : EReal :=
  if h : r < 8192 ∧ c < 512 then B (ix2 ⟨r, h.1⟩ ⟨c, h.2⟩) else 0

/-- What one strided load brings in: 256 rows of the block, every second one from row `base` on, 128 columns from `col`. -/
def strideRows (B : FVec Ideal S8192x512 .f32) (base col : ℕ) : FVec Ideal S1x256x128 .f32 :=
  fun x => cell B (base + 2 * (x 1 : ℕ)) (col + (x 2 : ℕ))

/-- The part of the block that is the image starting at row `base`. -/
def blockImage (B : FVec Ideal S8192x512 .f32) (base r c : ℕ) : EReal := cell B (base + r) c

/-- Four chunks of 128 columns of the same rows, side by side, are the rows' 512 columns. -/
theorem chunks_at (B : FVec Ideal S8192x512 .f32) (row q : ℕ) :
    (if q < 128 then cell B row q
      else if q - 128 < 128 then cell B row (128 + (q - 128))
      else if q - 128 - 128 < 128 then cell B row (256 + (q - 128 - 128))
      else cell B row (384 + (q - 128 - 128 - 128))) = cell B row q := by
  split
  · rfl
  split
  · rw [show 128 + (q - 128) = q by omega]
  split
  · rw [show 256 + (q - 128 - 128) = q by omega]
  · rw [show 384 + (q - 128 - 128 - 128) = q by omega]

/-- The even rows of an image, the anti-diagonal replaced. -/
def evens (B : FVec Ideal S8192x512 .f32) (base : ℕ) : FVec Ideal S256x512 .f32 :=
  k0_pay8 k0_pay1 (strideRows B base 0) (strideRows B base 128) (strideRows B base 256) (strideRows B base 384)

/-- The odd rows of an image, the anti-diagonal replaced. -/
def odds (B : FVec Ideal S8192x512 .f32) (base : ℕ) : FVec Ideal S256x512 .f32 :=
  k0_pay9 k0_pay2 (strideRows B (base + 1) 0) (strideRows B (base + 1) 128) (strideRows B (base + 1) 256)
    (strideRows B (base + 1) 384)

/-- The odd rows moved down by one, a row of padding first. -/
def aboves (B : FVec Ideal S8192x512 .f32) (base : ℕ) : FVec Ideal S256x512 .f32 :=
  k0_pay10 k0_pay2 (strideRows B (base + 1) 0) (strideRows B (base + 1) 128) (strideRows B (base + 1) 256)
    (strideRows B (base + 1) 384)

/-- Row r of the even rows is the masked image's row 2 r. -/
theorem evens_at (B : FVec Ideal S8192x512 .f32) (base : ℕ) (r : Fin 256) (q : Fin 512) :
    evens B base (ix2 r q) = masked (blockImage B base) (2 * r) q := by
  unfold evens
  pointwise [k0_pay8, k0_pay1, strideRows]
  simp only [dite_eq_ite]
  rw [chunks_at, IntOp.muli, ← BitVec.ofNat_mul, word_sum_eq _ _ _ (by omega) (by omega) (by omega), bit_select]
  rfl

/-- Row r of the odd rows is the masked image's row 2 r + 1. -/
theorem odds_at (B : FVec Ideal S8192x512 .f32) (base : ℕ) (r : Fin 256) (q : Fin 512) :
    odds B base (ix2 r q) = masked (blockImage B base) (2 * r + 1) q := by
  unfold odds
  pointwise [k0_pay9, k0_pay2, strideRows]
  simp only [dite_eq_ite]
  rw [chunks_at, IntOp.muli, ← BitVec.ofNat_mul, IntOp.addi.eq_def (BitVec.ofNat 32 (2 * (r : ℕ))), ← BitVec.ofNat_add,
    word_sum_eq _ _ _ (by omega) (by omega) (by omega), bit_select,
    show base + 1 + 2 * (r : ℕ) = base + (2 * r + 1) by omega]
  rfl

/-- Row r of the rows moved down is the masked image's row 2 r − 1, or padding for the first. -/
theorem aboves_at (B : FVec Ideal S8192x512 .f32) (base : ℕ) (r : Fin 256) (q : Fin 512) :
    aboves B base (ix2 r q) = rowAbove (blockImage B base) r q := by
  have split_off : aboves B base (ix2 r q) = if h : (r : ℕ) < 1 then padValue
      else odds B base (ix2 ⟨(r : ℕ) - 1, by omega⟩ q) := by
    unfold aboves odds
    generalize strideRows B (base + 1) 0 = c0
    pointwise [k0_pay10]
    rfl
  rw [split_off, rowAbove]
  split <;> rename_i h
  · rw [if_pos (by omega)]
  · rw [if_neg (by omega), odds_at]

/-- One pooled image of the kernel. -/
def imageOut (B : FVec Ideal S8192x512 .f32) (base : ℕ) (s1 s0 s2 : FVec Ideal S512x256 .f32) : FVec Ideal S256x256 .f32 :=
  k0_pay13 (iota .tc S256x256 32 [1] iota_S256x256_d1_w32) (iota .tc S256x256 32 [0] iota_S256x256_d0_w32)
    (evens B base) (aboves B base) (maximumf (evens B base) (odds B base))
    (maximumf (aboves B base) (maximumf (evens B base) (odds B base))) s0 s1 s2

/-- A row times a matrix column that has a single 1, at place k, is the row's entry k. -/
theorem sum_pick (f : Fin 512 → EReal) (k : Fin 512) (s : Fin 512 → EReal) (hs : ∀ q, s q = if (q : ℕ) = k then 1 else 0) :
    ∑ q, f q * s q = f k := by
  simp [hs, Fin.val_inj]

/-- A row times a matrix column of zeros is 0. -/
theorem sum_none (f : Fin 512 → EReal) (s : Fin 512 → EReal) (hs : ∀ q, s q = 0) : ∑ q, f q * s q = 0 := by
  simp [hs]

/-- Entry (r, j) of the kernel's pooled image, for selection matrices whose column j has its 1 at row 2 j − 1, 2 j and
    2 j + 1, is the pooled entry (r, j) of the image that starts at row `base` of the block. -/
theorem imageOut_at (B : FVec Ideal S8192x512 .f32) (base : ℕ) (s1 s0 s2 : FVec Ideal S512x256 .f32)
    (h1 : ∀ (q : Fin 512) (j : Fin 256), s1 (ix2 q j) = if (q : ℕ) + 1 = 2 * j then 1 else 0)
    (h0 : ∀ (q : Fin 512) (j : Fin 256), s0 (ix2 q j) = if (q : ℕ) = 2 * j then 1 else 0)
    (h2 : ∀ (q : Fin 512) (j : Fin 256), s2 (ix2 q j) = if (q : ℕ) = 2 * j + 1 then 1 else 0) (r j : Fin 256) :
    imageOut B base s1 s0 s2 (ix2 r j) = hexEntry (blockImage B base) r j := by
  rw [← hexEntry_eq_columns]
  unfold imageOut
  pointwise [k0_pay13]
  have middle := sum_pick (fun q => max (aboves B base (ix2 r q)) (max (evens B base (ix2 r q)) (odds B base (ix2 r q))))
    ⟨2 * (j : ℕ), by omega⟩ (fun q => s0 (ix2 q j)) (fun q => h0 q j)
  have right := sum_pick (fun q => max (aboves B base (ix2 r q)) (evens B base (ix2 r q)))
    ⟨2 * (j : ℕ) + 1, by omega⟩ (fun q => s2 (ix2 q j)) (fun q => h2 q j)
  rw [word_sum_lt _ _ _ (by omega) (by omega) (by omega), bit_select, WordCmp.cmpi_eq_ofNat (by omega) (by omega),
    bit_select, middle, right]
  simp only [evens_at, odds_at, aboves_at]
  by_cases hj : (j : ℕ) = 0
  · have left := sum_none (fun q => max (masked (blockImage B base) (2 * r) q) (masked (blockImage B base) (2 * r + 1) q))
      (fun q => s1 (ix2 q j)) (fun q => by rw [h1, if_neg (by omega)])
    rw [left, if_pos hj, if_pos hj]
    rfl
  · have left := sum_pick (fun q => max (masked (blockImage B base) (2 * r) q) (masked (blockImage B base) (2 * r + 1) q))
      ⟨2 * (j : ℕ) - 1, by omega⟩ (fun q => s1 (ix2 q j)) (fun q => by
        rw [h1]
        exact if_congr (by simp only []; omega) rfl rfl)
    rw [left, if_neg hj, if_neg hj]

end Cert.Proof

end
-- ==== Proof.Block.lean ====
/- What one grid point leaves in its output block: sixteen pooled images, one under the other. -/
module

public import proofs.«01_k».proof.Proof.Image
public import proofs.«01_k».proof.Proof.Gen.KernelIdeal.Frame
public import Idealize.ShloMosaic.Lib.Pipeline.ReadBack

@[expose] public section

set_option maxRecDepth 16384

noncomputable section

namespace Cert.Proof

open Idealize.ShloMosaic Idealize.SL.Sem Cert.KernelIdeal Cert.KernelIdeal.Gen

/-- A cast to the same shape and one that adds a leading axis of length one move no element. -/
theorem casts_at (W : FVec Ideal S4096x128 .f32) (h : S4096x128.ShapeCasts S4096x128) (h' : S4096x128.ShapeCasts S1x4096x128)
    (u : Fin 1) (r : Fin 4096) (l : Fin 128) :
    shapeCast S1x4096x128 (shapeCast S4096x128 W h) h' (ix3 u r l) = W (ix2 r l) := by
  pointwise

/-- A chunk of 128 columns of 4096 rows, as it is stored, at an index. -/
theorem chunk_at (B : FVec Ideal S8192x512 .f32) (off col : ℕ)
    (inb : ∀ a : Fin 2, ![off, col] a + ![4096, 128] a ≤ S8192x512.size a)
    (h : (Rect.unit ![off, col] ![4096, 128] inb : Rect S8192x512).shape.ShapeCasts S4096x128)
    (h' : S4096x128.ShapeCasts S1x4096x128) (u : Fin 1) (r : Fin 4096) (l : Fin 128) :
    shapeCast S1x4096x128 (shapeCast S4096x128 (View.ld (Val := Elt Ideal) (e' := .f32) B (Rect.unit ![off, col] ![4096, 128] inb)) h) h' (ix3 u r l)
      = cell B (off + r) (col + l) := by
  have hrow : off + 4096 ≤ 8192 := inb 0
  have hcol : col + 128 ≤ 512 := inb 1
  rw [cell, dif_pos (by omega)]
  refine (casts_at _ h h' u r l).trans (congrArg B ?_)
  funext a
  apply Fin.ext
  fin_cases a
  · show off + 1 * (r : ℕ) = off + r
    omega
  · show col + 1 * (l : ℕ) = col + l
    omega

/-- A strided load of a chunk, whose store is the newest one that it meets, reads every second row of the block from the
    load's first row on. -/
theorem block_read {sig : RefSig} {κ : Kind} {sp : Space} (v : View sig κ sp S4x4096x128 .f32) (B : FVec Ideal S8192x512 .f32)
    (k off col b : ℕ) (inb) (inb') (inb'') (h h') (L : List (View.Piece (Elt Ideal) S4x4096x128 .f32)) :
    v.readCov (⟨Rect.unit ![k, 0, 0] ![1, 4096, 128] inb,
        shapeCast S1x4096x128 (shapeCast S4096x128 (View.ld B (Rect.unit ![off, col] ![4096, 128] inb')) h) h'⟩ :: L)
      ⟨![k, b, 0], ![1, 256, 128], ![1, 2, 1], inb''⟩ = strideRows B (off + b) col := by
  have hb : b + 2 * 255 < 4096 := by
    rcases inb'' 1 with h | h
    · exact absurd h (by decide)
    · exact h
  rw [View.readCov_eq_canon']
  funext x
  have hx : ∀ a : Fin 3, (x a : ℕ) < ![1, 256, 128] a := fun a => (x a).isLt
  have hx0 : (x 0 : ℕ) < 1 := hx 0
  have hx1 : (x 1 : ℕ) < 256 := hx 1
  have hx2 : (x 2 : ℕ) < 128 := hx 2
  have e : (⟨![k, b, 0], ![1, 256, 128], ![1, 2, 1], inb''⟩ : LoadRect S4x4096x128).idx x
      = (Rect.unit ![k, 0, 0] ![1, 4096, 128] inb : Rect S4x4096x128).emb
        (ix3 (0 : Fin 1) (⟨b + 2 * (x 1 : ℕ), by omega⟩ : Fin 4096) (⟨(x 2 : ℕ), hx2⟩ : Fin 128)) := by
    funext a
    apply Fin.ext
    fin_cases a
    · show k + 1 * (x 0 : ℕ) = k + 1 * 0
      omega
    · show b + 2 * (x 1 : ℕ) = 0 + 1 * (b + 2 * (x 1 : ℕ))
      omega
    · show 0 + 1 * (x 2 : ℕ) = 0 + 1 * (x 2 : ℕ)
      rfl
  show View.canon _ _ = _
  rw [e, View.canon_cons_emb]
  refine (chunk_at B off col inb' h h' _ _ _).trans ?_
  rw [strideRows, Nat.add_assoc]

/-- The kernel's operations on eight loads are one pooled image, when the loads are the image's even and odd rows. -/
theorem piece_eq (B : FVec Ideal S8192x512 .f32) (base : ℕ) (s1 s0 s2 : FVec Ideal S512x256 .f32)
    (e0 e1 e2 e3 o0 o1 o2 o3 : FVec Ideal S1x256x128 .f32)
    (he0 : e0 = strideRows B base 0) (he1 : e1 = strideRows B base 128) (he2 : e2 = strideRows B base 256)
    (he3 : e3 = strideRows B base 384) (ho0 : o0 = strideRows B (base + 1) 0) (ho1 : o1 = strideRows B (base + 1) 128)
    (ho2 : o2 = strideRows B (base + 1) 256) (ho3 : o3 = strideRows B (base + 1) 384) (x : S256x256.Idx) :
    k0_pay13 (iota .tc S256x256 32 [1] iota_S256x256_d1_w32) (iota .tc S256x256 32 [0] iota_S256x256_d0_w32)
      (k0_pay8 k0_pay1 e0 e1 e2 e3) (k0_pay10 k0_pay2 o0 o1 o2 o3)
      (k0_pay11 k0_pay1 k0_pay2 e0 e1 e2 e3 o0 o1 o2 o3) (k0_pay12 k0_pay1 k0_pay2 e0 e1 e2 e3 o0 o1 o2 o3) s0 s1 s2 x
      = imageOut B base s1 s0 s2 x := by
  subst he0 he1 he2 he3 ho0 ho1 ho2 ho3
  rfl

/-- Entry y of the output block that belongs to the input block B: row y₀ is row y₀ mod 256 of image y₀ / 256. -/
def blockOut (B : FVec Ideal S8192x512 .f32) (y : S4096x256.Idx) : EReal :=
  hexEntry (blockImage B (512 * ((y 0 : ℕ) / 256))) ((y 0 : ℕ) % 256) (y 1 : ℕ)

/-- A pooled image at the place of the output block where it is stored. -/
theorem imageOut_block (B : FVec Ideal S8192x512 .f32) (base : ℕ) (s1 s0 s2 : FVec Ideal S512x256 .f32)
    (h1 : ∀ (q : Fin 512) (j : Fin 256), s1 (ix2 q j) = if (q : ℕ) + 1 = 2 * j then 1 else 0)
    (h0 : ∀ (q : Fin 512) (j : Fin 256), s0 (ix2 q j) = if (q : ℕ) = 2 * j then 1 else 0)
    (h2 : ∀ (q : Fin 512) (j : Fin 256), s2 (ix2 q j) = if (q : ℕ) = 2 * j + 1 then 1 else 0)
    (x : S256x256.Idx) (y : S4096x256.Idx) (hbase : base % 512 = 0) (hy0 : (y 0 : ℕ) = base / 2 + (x 0 : ℕ))
    (hy1 : (y 1 : ℕ) = (x 1 : ℕ)) : imageOut B base s1 s0 s2 x = blockOut B y := by
  have hx0 : (x 0 : ℕ) < 256 := (x 0).isLt
  have e : x = ix2 (x 0) (x 1) := by
    funext a
    fin_cases a <;> rfl
  rw [e]
  refine (imageOut_at B base s1 s0 s2 h1 h0 h2 (x 0) (x 1)).trans ?_
  rw [blockOut, hy1, show 512 * ((y 0 : ℕ) / 256) = base by omega, show (y 0 : ℕ) % 256 = (x 0 : ℕ) by omega]

set_option maxHeartbeats 4000000 in
/-- The output block of a grid point, for any input block and any selection matrices of the three kinds. -/
theorem out_at (c : Dev nD) (i : grid0.Coords) (a0 w0 a1 w1 a2 w2 a3 w3 a4 w4 a5 w5) (B : Vec Ideal S8192x512 .f32)
    (s1 s0 s2 : Vec Ideal S512x256 .f32)
    (sel1 : ∀ (q : Fin 512) (j : Fin 256), s1 (ix2 q j) = if (q : ℕ) + 1 = 2 * j then (1 : EReal) else 0)
    (sel0 : ∀ (q : Fin 512) (j : Fin 256), s0 (ix2 q j) = if (q : ℕ) = 2 * j then (1 : EReal) else 0)
    (sel2 : ∀ (q : Fin 512) (j : Fin 256), s2 (ix2 q j) = if (q : ℕ) = 2 * j + 1 then (1 : EReal) else 0)
    (y : S4096x256.Idx) : out0_A_4 c i a0 w0 a1 w1 a2 w2 a3 w3 a4 w4 a5 w5 B s1 s0 s2 y = blockOut B y := by
  unfold out0_A_4
  frame_open
  simp (disch := decide) only [↓ View.readCov_skip, ↓ View.readCov_cons_toLoadRect, ↓ View.readCov_fill]
  frame_out
  canon_tiles x h
  all_goals
    refine (piece_eq B ?_ s1 s0 s2 _ _ _ _ _ _ _ _ ?_ ?_ ?_ ?_ ?_ ?_ ?_ ?_ x).trans ?_
    rotate_left
    · refine (block_read a5.view B 0 _ 0 _ _ _ _ _ _ _).trans ?_
      rfl
    · refine (block_read a5.view B 1 _ 128 _ _ _ _ _ _ _).trans ?_
      rfl
    · refine (block_read a5.view B 2 _ 256 _ _ _ _ _ _ _).trans ?_
      rfl
    · refine (block_read a5.view B 3 _ 384 _ _ _ _ _ _ _).trans ?_
      rfl
    · refine (block_read a5.view B 0 _ 0 _ _ _ _ _ _ _).trans ?_
      rfl
    · refine (block_read a5.view B 1 _ 128 _ _ _ _ _ _ _).trans ?_
      rfl
    · refine (block_read a5.view B 2 _ 256 _ _ _ _ _ _ _).trans ?_
      rfl
    · refine (block_read a5.view B 3 _ 384 _ _ _ _ _ _ _).trans ?_
      rfl
    · exact imageOut_block B _ s1 s0 s2 sel1 sel0 sel2 x y (by decide) (by omega) (by omega)

end Cert.Proof

end
-- ==== Proof.Selectors.lean ====
/- The operands that the host lines prepare before the kernel: the images stacked row by row, and the three 0/1 matrices
   with which the kernel picks columns. -/
module

public import proofs.«01_k».proof.Proof.HexPool
public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.Proof

open Idealize.ShloMosaic Idealize.SL.Sem Cert.KernelIdeal Cert.KernelIdeal.Gen

/-- The matrix that marks the places where the row's number equals the column's word `w`. -/
def marks (w : IVec S1x256 32) : FVec Ideal S512x256 .f32 :=
  uitofp .f32 (cmpi .eq
    (broadcastInDim S512x256 ![0, 1] bcast_S512x1_S512x256_0_1 (broadcastInDim S512x1 ![0] bcast_S512_S512x1_0 (iotaInDim S512 32 0)))
    (broadcastInDim S512x256 ![0, 1] bcast_S1x256_S512x256_0_1 w))

/-- Twice the column's number, as a word. -/
def twice : IVec S1x256 32 :=
  muli (broadcastInDim S1x256 ![] bcast_S_S1x256 (constantI S_ 32 2#32))
    (broadcastInDim S1x256 ![1] bcast_S256_S1x256_1 (iotaInDim S256 32 0))

/-- The constant one in every column. -/
def ones : IVec S1x256 32 := broadcastInDim S1x256 ![] bcast_S_S1x256 (constantI S_ 32 1#32)

/-- An entry of a matrix of marks is 1 or 0 by the comparison of two words. -/
theorem marks_at (w : IVec S1x256 32) (q : Fin 512) (j : Fin 256) (k : BitVec 32) (hk : w (ix2 (0 : Fin 1) j) = k) :
    marks w (ix2 q j) = if (q : ℕ) = k.toNat then (1 : EReal) else 0 := by
  subst hk
  have e : marks w (ix2 q j) = FloatOps.uitofp (F := Ideal) .f32 (IntOp.cmpi .eq (BitVec.ofNat 32 q) (w (ix2 (0 : Fin 1) j))) := by
    unfold marks
    pointwise
  rw [e, WordCmp.cmpi_eq_eq_toNat, bit_value, WordCmp.toNat_ofNat_of_lt (by omega)]

/-- Twice the number of column j. -/
theorem twice_at (j : Fin 256) : (twice (ix2 (0 : Fin 1) j)) = BitVec.ofNat 32 (2 * (j : ℕ)) := by
  have e : twice (ix2 (0 : Fin 1) j) = 2#32 * BitVec.ofNat 32 j := rfl
  rw [e, BitVec.ofNat_mul]

/-- Row n of a stack of images written row by row is row n mod 512 of image n / 512. -/
theorem rows_at (X : FVec Ideal S8x32x512x512 .f32) (h : S8x32x512x512.ShapeCasts S131072x512) (n : Fin 131072) (r k : Fin 512)
    (a : Fin 8) (b : Fin 32) (hn : (n : ℕ) = (a * 32 + b) * 512 + r) :
    shapeCast S131072x512 X h (ix2 n k) = stackImage X a b r k := by
  rw [stackImage, dif_pos ⟨r.isLt, k.isLt⟩]
  pointwise
  blk_ext

variable (m : (ℓ : Loc nD τ sig) → Buf (Elt Ideal) ℓ) (c : Dev nD)

/-- The first selection matrix picks the column before each even column, and nothing for the first column. -/
theorem selector_before (q : Fin 512) (j : Fin 256) :
    V m c main_call0_v12 (ix2 q j) = if (q : ℕ) + 1 = 2 * j then (1 : EReal) else 0 := by
  have e : V m c main_call0_v12 = marks (subi twice ones) := by
    show StableHlo.after hostOps0 (fun b => m (c, b)) (Proc.devRef .tc main_call0_v12) = _
    after_results
    rfl
  rw [e, marks_at _ q j (twice (ix2 (0 : Fin 1) j) - 1#32) rfl, twice_at]
  have h : (BitVec.ofNat 32 (2 * (j : ℕ)) - 1#32).toNat = if (j : ℕ) = 0 then 4294967295 else 2 * (j : ℕ) - 1 := by
    rw [BitVec.toNat_sub, WordCmp.toNat_ofNat_of_lt (by omega), WordCmp.toNat_ofNat_of_lt (by omega)]
    split <;> omega
  rw [h]
  have hc : ((q : ℕ) = if (j : ℕ) = 0 then 4294967295 else 2 * (j : ℕ) - 1) ↔ (q : ℕ) + 1 = 2 * j := by
    split <;> omega
  simp only [hc]

/-- The second selection matrix picks the even columns. -/
theorem selector_same (q : Fin 512) (j : Fin 256) :
    V m c main_call0_v16 (ix2 q j) = if (q : ℕ) = 2 * j then (1 : EReal) else 0 := by
  have e : V m c main_call0_v16 = marks twice := by
    show StableHlo.after hostOps0 (fun b => m (c, b)) (Proc.devRef .tc main_call0_v16) = _
    after_results
    rfl
  rw [e, marks_at _ q j _ (twice_at j), WordCmp.toNat_ofNat_of_lt (by omega)]

/-- The third selection matrix picks the odd columns. -/
theorem selector_after (q : Fin 512) (j : Fin 256) :
    V m c main_call0_v22 (ix2 q j) = if (q : ℕ) = 2 * j + 1 then (1 : EReal) else 0 := by
  have e : V m c main_call0_v22 = marks (addi twice ones) := by
    show StableHlo.after hostOps0 (fun b => m (c, b)) (Proc.devRef .tc main_call0_v22) = _
    after_results
    rfl
  rw [e, marks_at _ q j (twice (ix2 (0 : Fin 1) j) + 1#32) rfl, twice_at]
  have h : (BitVec.ofNat 32 (2 * (j : ℕ)) + 1#32).toNat = 2 * j + 1 := by
    rw [BitVec.toNat_add, WordCmp.toNat_ofNat_of_lt (by omega), WordCmp.toNat_ofNat_of_lt (by omega)]
    omega
  rw [h]

/-- Row n of the stacked images is row n mod 512 of image n / 512, counted through both leading axes. -/
theorem stacked_at (n : Fin 131072) (r : Fin 512) (k : Fin 512) (a : Fin 8) (b : Fin 32) (hn : (n : ℕ) = (a * 32 + b) * 512 + r) :
    V m c main_call0_v0 (ix2 n k) = stackImage (m ((c.tc : Thread nD τ).loc main_arg0)) a b r k := by
  have e : V m c main_call0_v0 = shapeCast S131072x512 (m ((c.tc : Thread nD τ).loc main_arg0)) shapeCasts_S8x32x512x512_S131072x512 := by
    show StableHlo.after hostOps0 (fun b => m (c, b)) (Proc.devRef .tc main_call0_v0) = _
    after_results
    rfl
  rw [e]
  exact rows_at _ _ n r k a b hn

end Cert.Proof

end
-- ==== Proof.Array.lean ====
/- The kernel's result array: from the blocks that the grid points leave to the program's result. -/
module

public import proofs.«01_k».proof.Proof.Block
public import proofs.«01_k».proof.Proof.Selectors

@[expose] public section

set_option maxRecDepth 16384

noncomputable section

namespace Cert.Proof

open Idealize.ShloMosaic Idealize.SL.Sem Cert.KernelIdeal Cert.KernelIdeal.Gen

/-- The pooled images written row by row: row n is row n mod 256 of pooled image n / 256, counted through both leading
    axes. -/
def pooledRows (X : FVec Ideal S8x32x512x512 .f32) (J : S65536x256.Idx) : EReal :=
  hexEntry (stackImage X ⟨(J 0 : ℕ) / 8192, by have h : (J 0 : ℕ) < 65536 := (J 0).isLt; omega⟩ ⟨(J 0 : ℕ) / 256 % 32, by omega⟩)
    ((J 0 : ℕ) % 256) (J 1 : ℕ)

/-- The block of grid point t holds the pooled rows from row 4096 t on, when its input block holds the stacked rows from
    row 8192 t on. -/
theorem block_pooled (X : FVec Ideal S8x32x512x512 .f32) (B : FVec Ideal S8192x512 .f32) (t : ℕ) (ht : t < 16)
    (hB : ∀ (p : Fin 8192) (r k : Fin 512) (a : Fin 8) (b : Fin 32), 8192 * t + (p : ℕ) = (a * 32 + b) * 512 + r →
      B (ix2 p k) = stackImage X a b r k)
    (y : S4096x256.Idx) (J : S65536x256.Idx) (hJ0 : (J 0 : ℕ) = 4096 * t + (y 0 : ℕ)) (hJ1 : (J 1 : ℕ) = (y 1 : ℕ)) :
    blockOut B y = pooledRows X J := by
  have hy0 : (y 0 : ℕ) < 4096 := (y 0).isLt
  have hy1 : (y 1 : ℕ) < 256 := (y 1).isLt
  unfold blockOut pooledRows
  rw [hJ1, show (J 0 : ℕ) % 256 = (y 0 : ℕ) % 256 by omega]
  refine hexEntry_congr _ _ (fun r k hr hk => ?_) _ _ (by omega) hy1
  rw [blockImage, cell, dif_pos (by omega)]
  exact hB ⟨_, _⟩ ⟨r, hr⟩ ⟨k, hk⟩ _ _ (by simp only [hJ0]; omega)

/-- A result array that holds the pooled rows, taken as images, holds at (a, b, i, j) entry (i, j) of pooled image (a, b). -/
theorem pooled_at (X : FVec Ideal S8x32x512x512 .f32) (h : S65536x256.ShapeCasts S8x32x256x256) (a : Fin 8) (b : Fin 32) (i j : Fin 256) :
    shapeCast S8x32x256x256 (pooledRows X : FVec Ideal S65536x256 .f32) h (ix4 a b i j) = hexEntry (stackImage X a b) i j := by
  have e : ∀ J : S65536x256.Idx, (J 0 : ℕ) = (a * 32 + b) * 256 + i → (J 1 : ℕ) = j → pooledRows X J = hexEntry (stackImage X a b) i j := by
    intro J h0 h1
    unfold pooledRows
    rw [h1, show (J 0 : ℕ) % 256 = i by omega]
    congr 2
    · apply Fin.ext
      show (J 0 : ℕ) / 8192 = a
      omega
    · apply Fin.ext
      show (J 0 : ℕ) / 256 % 32 = b
      omega
  generalize pooledRows X = P at e
  pointwise
  apply e
  · show (a : ℕ) * 8192 + (b : ℕ) * 256 + (i : ℕ) = ((a : ℕ) * 32 + b) * 256 + i
    omega
  · rfl

variable (m : (ℓ : Loc nD τ sig) → Buf (Elt Ideal) ℓ) (c : Dev nD)

/-- The blocks of the images and of the result move with the grid point; the selection matrices are taken whole. -/
theorem indices : ∀ t : Fin grid0.N, win0_0.index t = ![t.val, 0] ∧ win0_1.index t = ![0, 0] ∧ win0_2.index t = ![0, 0]
    ∧ win0_3.index t = ![0, 0] ∧ win0_4.index t = ![t.val, 0] := by
  decide +kernel

/-- After the last grid point the result array holds the pooled rows. -/
theorem array_eq : (dats m 0 c).arrAt 4 cfg0.N = pooledRows (m ((c.tc : Thread nD τ).loc main_arg0)) := by
  refine (dats m 0 c).arrAt_eq_of_covers 4 _ (by decide +kernel) fun t hf y => ?_
  blk_simp
  rw [after0_4]
  unfold outsAt0
  obtain ⟨i0, i1, i2, i3, i4⟩ := indices t
  refine (out_at c _ _ _ _ _ _ _ _ _ _ _ _ _ (iblk m c 0 t) (iblk m c 1 t) (iblk m c 2 t) (iblk m c 3 t) ?_ ?_ ?_ y).trans ?_
  · intro q j
    refine Eq.trans ?_ (selector_before m c q j)
    blk_simp [iblk, i1]
    refine congrArg (V m c main_call0_v12) ?_
    blk_ext [i1]
  · intro q j
    refine Eq.trans ?_ (selector_same m c q j)
    blk_simp [iblk, i2]
    refine congrArg (V m c main_call0_v16) ?_
    blk_ext [i2]
  · intro q j
    refine Eq.trans ?_ (selector_after m c q j)
    blk_simp [iblk, i3]
    refine congrArg (V m c main_call0_v22) ?_
    blk_ext [i3]
  · refine block_pooled _ _ t t.isLt ?_ _ _ ?_ ?_
    · intro p r k a b hn
      refine Eq.trans ?_ (stacked_at m c ⟨8192 * (t : ℕ) + p, ?_⟩ r k a b hn)
      · blk_simp [iblk, i0]
        refine congrArg (V m c main_call0_v0) ?_
        blk_ext [i0]
      · omega
    · blk_simp [i4]
      omega
    · blk_simp [i4]

/-- The program's result at (a, b, i, j) is entry (i, j) of pooled image (a, b). -/
theorem kernel_at (a : Fin 8) (b : Fin 32) (i j : Fin 256) :
    Pipeline.afterTail₀ cfgs (dats m) 0 (V0 m) [hostOps1] c main_v0 (ix4 a b i j)
      = hexEntry (stackImage (m ((c.tc : Thread nD τ).loc main_arg0)) a b) i j := by
  have e : Pipeline.afterTail₀ cfgs (dats m) 0 (V0 m) [hostOps1] c main_v0
      = shapeCast S8x32x256x256 ((dats m 0 c).arrAt 4 cfg0.N) shapeCasts_S65536x256_S8x32x256x256 := by
    unfold Pipeline.afterTail₀
    show StableHlo.after hostOps1 _ _ = _
    after_results
    exact congrArg (fun P => shapeCast S8x32x256x256 (P : FVec Ideal S65536x256 .f32) shapeCasts_S65536x256_S8x32x256x256)
      (Pipeline.withArrays_arr spec0 launch0.win.arr_inj c (V0 m c) (fun w => (dats m 0 c).arrAt w cfg0.N) 4)
  rw [e, array_eq]
  exact pooled_at _ _ a b i j

end Cert.Proof

end
-- ==== Proof.Reference.lean ====
/- The reference's result at an index: entry (a, b, i, j) is entry (i, j) of the pooled image (a, b). -/
module

public import proofs.«01_k».proof.Proof.HexPool
public import proofs.«01_k».proof.Proof.Gen.ReferenceIdeal.Run
public import Idealize.ShloMosaic.Lib.Pipeline.ValueKit

@[expose] public section

set_option maxRecDepth 16384

noncomputable section

namespace Cert.Proof

open Idealize.ShloMosaic Idealize.SL.Sem Cert.ReferenceIdeal

/-- The stack of images laid out as 256 images: image 32 a + b is image (a, b). -/
theorem images_at (x : FVec Ideal S8x32x512x512 .f32) (h : S8x32x512x512.ShapeCasts S256x512x512) (a : Fin 8) (b : Fin 32)
    (hn : (a : ℕ) * 32 + b < 256) (p q : Fin 512) :
    shapeCast S256x512x512 x h (ix3 ⟨(a : ℕ) * 32 + b, hn⟩ p q) = stackImage x a b p q := by
  pointwise
  rw [stackImage, dif_pos ⟨p.isLt, q.isLt⟩]
  blk_ext

variable (m : (ℓ : Loc nD τ sig) → Buf (Elt Ideal) ℓ)

/-- The reference's result at (a, b, i, j) is the pooled entry (i, j) of image (a, b). -/
theorem reference_at (c : Dev nD) (a : Fin 8) (b : Fin 32) (i j : Fin 256) :
    Value.res_out0 m c (ix4 a b i j) = hexEntry (stackImage (m ((c.tc : Thread nD τ).loc main_arg0)) a b) i j := by
  show Value.res_main_v37 m c (ix4 a b i j) = _
  unfold Value.res_main_v37
  generalize m ((c.tc : Thread nD τ).loc main_arg0) = X
  generalize hP : pad _ _ _ _ _ _ _ _ = P
  generalize hY : select _ _ _ = Y at hP
  have hn : (a : ℕ) * 32 + b < 256 := by omega
  have masked_at : ∀ p q : Fin 512, Y (ix3 ⟨(a : ℕ) * 32 + b, hn⟩ p q) = masked (stackImage X a b) p q := by
    intro p q
    rw [← hY]
    generalize hZ : shapeCast _ X _ = Z
    generalize hW : cmpi _ _ _ = W
    have hW_at : W (ix2 p q) = BitVec.ofBool (decide ((p : ℕ) + q = 512)) := by
      rw [← word_sum_eq _ _ _ (by omega) (by omega) (by omega), ← hW]
      rfl
    have hZ_at : Z (ix3 ⟨(a : ℕ) * 32 + b, hn⟩ p q) = stackImage X a b p q := by
      rw [← hZ]
      exact images_at X _ a b hn p q
    pointwise
    rw [hW_at, hZ_at, bit_select]
    rfl
  have padded_at : ∀ p q : Fin 514, (p : ℕ) < 513 → (q : ℕ) < 513 →
      P (ix3 ⟨(a : ℕ) * 32 + b, hn⟩ p q) = padded (stackImage X a b) p q := by
    intro p q hp hq
    rw [← hP]
    pointwise
    unfold padded
    split <;> rename_i h
    · rw [masked_at, if_neg (by omega)]
    · rw [if_pos (by omega)]
      rfl
  pointwise
  simp (disch := (simp only []; omega)) only [padded_at]
  rw [word_sum_lt _ _ _ (by omega) (by omega) (by omega), bit_value, hexEntry]
  simp only [Nat.add_comm (2 * (_ : ℕ)) _]
  split <;> simp

end Cert.Proof

end
-- ==== Proof.lean ====
/- The claim: the hexagonal max pool kernel, its form over the extended reals and the plain reference run to the end as they
   should, and the kernel and the reference compute the same function over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- From the same images the reference and the kernel produce the same result array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.res_out0 m' c
      = Pipeline.afterTail₀ Cert.KernelIdeal.cfgs (Cert.KernelIdeal.Gen.dats m) 0 (Cert.KernelIdeal.Gen.V0 m)
        [Cert.KernelIdeal.Gen.hostOps1] c Cert.KernelIdeal.main_v0 := by
  funext x
  have e : x = ix4 (x 0 : Fin 8) (x 1 : Fin 32) (x 2 : Fin 256) (x 3 : Fin 256) := by
    funext a
    fin_cases a <;> rfl
  rw [e]
  refine (reference_at m' c _ _ _ _).trans ?_
  rw [hagree]
  exact (kernel_at m c _ _ _ _).symm

/-- The kernel and the reference, run on the same images, end with the same result. -/
theorem same_result : Cert.algebraic_KernelIdeal_ReferenceIdeal := by
  pair_intro
  · run_from Cert.KernelIdeal.Gen.run_main m g
    exact Cert.KernelIdeal.Gen.W_main_arg0 m (Cert.KernelIdeal.Gen.dats m) c
  · run_from Cert.ReferenceIdeal.Value.run m' g'
    exact results_eq m m' c (hagree c)

/-- The reference ends with its argument unchanged and every semaphore counter at zero. -/
theorem reference_frame : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run m ρ)

/-- The claim: the kernel, its form over the real numbers and the reference each run to the end and leave their arguments
    and the semaphores as they should be; the form over the real numbers is the kernel's own; and on the same images it and the
    reference end with the same result. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_result⟩

end Cert.Proof

end
